-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_some_item_unmasked [hPre_some_item_unmasked : Cert.Pre_some_item_unmasked.Facts] (m : (ℓ : Loc Cert.KernelIdeal.nD Cert.KernelIdeal.τ Cert.KernelIdeal.sig) → Buf (Elt Ideal) ℓ) : Prop :=
  ∀ c : Dev Cert.KernelIdeal.nD,
    (Cert.Pre_some_item_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_some_item_unmasked [hPre_some_item_unmasked : Cert.Pre_some_item_unmasked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_some_item_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_some_item_unmasked [hKernelIdeal : Cert.KernelIdeal.Facts] [hPre_some_item_unmasked : Cert.Pre_some_item_unmasked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_some_item_unmasked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_some_item_unmasked [hReferenceIdeal : Cert.ReferenceIdeal.Facts] [hPre_some_item_unmasked : Cert.Pre_some_item_unmasked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_some_item_unmasked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7))
      ∧ r.2.sem = fun _ => 0)

def preserves_Kernel_KernelIdeal : Prop :=
  True

def preserves_Reference_ReferenceIdeal : Prop :=
  IdealRules.named_const.Statement Cert.ReferenceIdeal.κ "mask" .f32 0xCB189680#32 ⊥

def algebraic_KernelIdeal_ReferenceIdeal_pre_some_item_unmasked [hKernelIdeal : Cert.KernelIdeal.Facts] [hReferenceIdeal : Cert.ReferenceIdeal.Facts] [hPre_some_item_unmasked : Cert.Pre_some_item_unmasked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_some_item_unmasked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hReference : Cert.Reference.Facts) (hPre_some_item_unmasked : Cert.Pre_some_item_unmasked.Facts),
    quiescent_Kernel (hKernel := hKernel)
    ∧ quiescent_KernelIdeal (hKernelIdeal := hKernelIdeal)
    ∧ quiescent_KernelIdeal_pre_some_item_unmasked (hKernelIdeal := hKernelIdeal) (hPre_some_item_unmasked := hPre_some_item_unmasked)
    ∧ quiescent_ReferenceIdeal (hReferenceIdeal := hReferenceIdeal)
    ∧ quiescent_ReferenceIdeal_pre_some_item_unmasked (hReferenceIdeal := hReferenceIdeal) (hPre_some_item_unmasked := hPre_some_item_unmasked)
    ∧ quiescent_Reference (hReference := hReference)
    ∧ preserves_Kernel_KernelIdeal
    ∧ preserves_Reference_ReferenceIdeal
    ∧ algebraic_KernelIdeal_ReferenceIdeal_pre_some_item_unmasked (hKernelIdeal := hKernelIdeal) (hReferenceIdeal := hReferenceIdeal) (hPre_some_item_unmasked := hPre_some_item_unmasked)
-- ==== Pre_some_item_unmasked.lean ====
abbrev S128x256x128 : Shape := ⟨3, ![128, 256, 128]⟩
abbrev S128x512x128 : Shape := ⟨3, ![128, 512, 128]⟩
abbrev S128x128 : Shape := ⟨2, ![128, 128]⟩
abbrev S128x512 : Shape := ⟨2, ![128, 512]⟩
abbrev S256 : Shape := ⟨1, ![256]⟩
abbrev S1 : Shape := ⟨1, ![1]⟩
abbrev S256x128 : Shape := ⟨2, ![256, 128]⟩
abbrev S128 : Shape := ⟨1, ![128]⟩
abbrev S_ : Shape := ⟨0, ![]⟩

class Facts : Prop where
  reducesTo_S128x512_S128_d1 : S128x512.ReducesTo [1] S128
  h_S_ : 0 < S_.numel
  reducesTo_S128_S_d0 : S128.ReducesTo [0] S_

variable [Facts]

def fn {F : FTy → Type} [FloatOps F] (main_arg0 : FVec F S128x256x128 .f32) (main_arg1 : FVec F S128x512x128 .f32) (main_arg2 : FVec F S128x128 .f32) (main_arg3 : IVec S128x512 1) (main_arg4 : FVec F S256 .f32) (main_arg5 : FVec F S1 .f32) (main_arg6 : FVec F S256x128 .f32) (main_arg7 : FVec F S128 .f32) : IVec S_ 1 :=
  let main_c : IVec S_ 1 := constantI S_ 1 0#1
  let main_v0 : IVec S128 1 := (fun x v => Host.reduce IntOp.ori x v reducesTo_S128x512_S128_d1 h_S_) main_arg3 main_c
  let main_c_0 : IVec S_ 1 := constantI S_ 1 1#1
  let main_v1 : IVec S_ 1 := (fun x v => Host.reduce IntOp.andi x v reducesTo_S128_S_d0 h_S_) main_v0 main_c_0
  main_v1
-- ==== Kernel.lean ====
abbrev S128x256x128 : Shape := ⟨3, ![128, 256, 128]⟩
abbrev S128x512x128 : Shape := ⟨3, ![128, 512, 128]⟩
abbrev S128x128 : Shape := ⟨2, ![128, 128]⟩
abbrev S128x512 : Shape := ⟨2, ![128, 512]⟩
abbrev S256 : Shape := ⟨1, ![256]⟩
abbrev S1 : Shape := ⟨1, ![1]⟩
abbrev S256x128 : Shape := ⟨2, ![256, 128]⟩
abbrev S128 : Shape := ⟨1, ![128]⟩
abbrev S128x1x512 : Shape := ⟨3, ![128, 1, 512]⟩
abbrev S128x1x128 : Shape := ⟨3, ![128, 1, 128]⟩
abbrev S1x256 : Shape := ⟨2, ![1, 256]⟩
abbrev S1x1 : Shape := ⟨2, ![1, 1]⟩
abbrev S1x128 : Shape := ⟨2, ![1, 128]⟩
abbrev S128x256x512 : Shape := ⟨3, ![128, 256, 512]⟩
abbrev S8x256x128 : Shape := ⟨3, ![8, 256, 128]⟩
abbrev S8x512x128 : Shape := ⟨3, ![8, 512, 128]⟩
abbrev S8x1x128 : Shape := ⟨3, ![8, 1, 128]⟩
abbrev S8x1x512 : Shape := ⟨3, ![8, 1, 512]⟩
abbrev S8x256x512 : Shape := ⟨3, ![8, 256, 512]⟩
abbrev S1x256x128 : Shape := ⟨3, ![1, 256, 128]⟩
abbrev S1x512x128 : Shape := ⟨3, ![1, 512, 128]⟩
abbrev S512x128 : Shape := ⟨2, ![512, 128]⟩
abbrev S256x1 : Shape := ⟨2, ![256, 1]⟩
abbrev S1x512 : Shape := ⟨2, ![1, 512]⟩
abbrev S256x512 : Shape := ⟨2, ![256, 512]⟩
abbrev S1x1x512 : Shape := ⟨3, ![1, 1, 512]⟩
abbrev S512x1 : Shape := ⟨2, ![512, 1]⟩
abbrev S1x256x512 : Shape := ⟨3, ![1, 256, 512]⟩
abbrev S1x1x128 : Shape := ⟨3, ![1, 1, 128]⟩

abbrev nBuf : Space → Nat
  | .hbm => 16
  | .vmem => 16
  | .smem => 0
  | _ => 0

abbrev bufTy : (tb : Table) → Fin (tcTables nBuf tb) → BufTy
  | .hbm, ⟨0, _⟩ => ⟨S128x256x128, .f32⟩
  | .hbm, ⟨1, _⟩ => ⟨S128x512x128, .f32⟩
  | .hbm, ⟨2, _⟩ => ⟨S128x128, .f32⟩
  | .hbm, ⟨3, _⟩ => ⟨S128x512, .i1⟩
  | .hbm, ⟨4, _⟩ => ⟨S256, .f32⟩
  | .hbm, ⟨5, _⟩ => ⟨S1, .f32⟩
  | .hbm, ⟨6, _⟩ => ⟨S256x128, .f32⟩
  | .hbm, ⟨7, _⟩ => ⟨S128, .f32⟩
  | .hbm, ⟨8, _⟩ => ⟨S128x512, .f32⟩
  | .hbm, ⟨9, _⟩ => ⟨S128x1x512, .f32⟩
  | .hbm, ⟨10, _⟩ => ⟨S128x1x128, .f32⟩
  | .hbm, ⟨11, _⟩ => ⟨S1x256, .f32⟩
  | .hbm, ⟨12, _⟩ => ⟨S1x1, .f32⟩
  | .hbm, ⟨13, _⟩ => ⟨S1x128, .f32⟩
  | .hbm, ⟨14, _⟩ => ⟨S128x256x128, .f32⟩
  | .hbm, ⟨15, _⟩ => ⟨S128x256x512, .f32⟩
  | .local _ .vmem, ⟨0, _⟩ => ⟨S8x256x128, .f32⟩
  | .local _ .vmem, ⟨1, _⟩ => ⟨S8x256x128, .f32⟩
  | .local _ .vmem, ⟨2, _⟩ => ⟨S8x512x128, .f32⟩
  | .local _ .vmem, ⟨3, _⟩ => ⟨S8x512x128, .f32⟩
  | .local _ .vmem, ⟨4, _⟩ => ⟨S8x1x128, .f32⟩
  | .local _ .vmem, ⟨5, _⟩ => ⟨S8x1x128, .f32⟩
  | .local _ .vmem, ⟨6, _⟩ => ⟨S8x1x512, .f32⟩
  | .local _ .vmem, ⟨7, _⟩ => ⟨S8x1x512, .f32⟩
  | .local _ .vmem, ⟨8, _⟩ => ⟨S1x256, .f32⟩
  | .local _ .vmem, ⟨9, _⟩ => ⟨S1x1, .f32⟩
  | .local _ .vmem, ⟨10, _⟩ => ⟨S256x128, .f32⟩
  | .local _ .vmem, ⟨11, _⟩ => ⟨S1x128, .f32⟩
  | .local _ .vmem, ⟨12, _⟩ => ⟨S8x256x128, .f32⟩
  | .local _ .vmem, ⟨13, _⟩ => ⟨S8x256x128, .f32⟩
  | .local _ .vmem, ⟨14, _⟩ => ⟨S8x256x512, .f32⟩
  | .local _ .vmem, ⟨15, _⟩ => ⟨S8x256x512, .f32⟩
  | _, _ => ⟨S128x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
variable {F : FTy → Type} [FloatOps F] [Named F]
def κ : String → Option EReal := fun
  | "mask" => some ⊥
  | _ => none
-- ==== Reference.lean ====
abbrev S128x256x128 : Shape := ⟨3, ![128, 256, 128]⟩
abbrev S128x512x128 : Shape := ⟨3, ![128, 512, 128]⟩
abbrev S128x128 : Shape := ⟨2, ![128, 128]⟩
abbrev S128x512 : Shape := ⟨2, ![128, 512]⟩
abbrev S256 : Shape := ⟨1, ![256]⟩
abbrev S1 : Shape := ⟨1, ![1]⟩
abbrev S256x128 : Shape := ⟨2, ![256, 128]⟩
abbrev S128 : Shape := ⟨1, ![128]⟩
abbrev S128x256 : Shape := ⟨2, ![128, 256]⟩
abbrev S128x256x1 : Shape := ⟨3, ![128, 256, 1]⟩
abbrev S128x1x512 : Shape := ⟨3, ![128, 1, 512]⟩
abbrev S128x256x512 : Shape := ⟨3, ![128, 256, 512]⟩
abbrev S_ : Shape := ⟨0, ![]⟩
abbrev S128x1x128 : Shape := ⟨3, ![128, 1, 128]⟩
abbrev S1x1x128 : Shape := ⟨3, ![1, 1, 128]⟩

abbrev nBuf : Space → Nat
  | .hbm => 55
  | .vmem => 2
  | .smem => 0
  | _ => 0

abbrev bufTy : (tb : Table) → Fin (tcTables nBuf tb) → BufTy
  | .hbm, ⟨0, _⟩ => ⟨S128x256x128, .f32⟩
  | .hbm, ⟨1, _⟩ => ⟨S128x512x128, .f32⟩
  | .hbm, ⟨2, _⟩ => ⟨S128x128, .f32⟩
  | .hbm, ⟨3, _⟩ => ⟨S128x512, .i1⟩
  | .hbm, ⟨4, _⟩ => ⟨S256, .f32⟩
  | .hbm, ⟨5, _⟩ => ⟨S1, .f32⟩
  | .hbm, ⟨6, _⟩ => ⟨S256x128, .f32⟩
  | .hbm, ⟨7, _⟩ => ⟨S128, .f32⟩
  | .hbm, ⟨8, _⟩ => ⟨S128, .f32⟩
  | .hbm, ⟨9, _⟩ => ⟨S128x256, .f32⟩
  | .hbm, ⟨10, _⟩ => ⟨S128, .f32⟩
  | .hbm, ⟨11, _⟩ => ⟨S128x512, .f32⟩
  | .hbm, ⟨12, _⟩ => ⟨S128x256x1, .f32⟩
  | .hbm, ⟨13, _⟩ => ⟨S128x1x512, .f32⟩
  | .hbm, ⟨14, _⟩ => ⟨S128x256x512, .f32⟩
  | .hbm, ⟨15, _⟩ => ⟨S128x256x512, .f32⟩
  | .hbm, ⟨16, _⟩ => ⟨S128x256x512, .f32⟩
  | .hbm, ⟨17, _⟩ => ⟨S_, .f32⟩
  | .hbm, ⟨18, _⟩ => ⟨S128x256x512, .f32⟩
  | .hbm, ⟨19, _⟩ => ⟨S128x256x512, .f32⟩
  | .hbm, ⟨20, _⟩ => ⟨S128x256x512, .f32⟩
  | .hbm, ⟨21, _⟩ => ⟨S128x512, .i1⟩
  | .hbm, ⟨22, _⟩ => ⟨S128x512, .f32⟩
  | .hbm, ⟨23, _⟩ => ⟨S128x512, .f32⟩
  | .hbm, ⟨24, _⟩ => ⟨S128x1x512, .f32⟩
  | .hbm, ⟨25, _⟩ => ⟨S128x256x512, .f32⟩
  | .hbm, ⟨26, _⟩ => ⟨S128x256x512, .f32⟩
  | .hbm, ⟨27, _⟩ => ⟨S_, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S128x256x1, .f32⟩
  | .hbm, ⟨33, _⟩ => ⟨S128x256x512, .f32⟩
  | .hbm, ⟨34, _⟩ => ⟨S128x256x512, .f32⟩
  | .hbm, ⟨35, _⟩ => ⟨S128x256x512, .f32⟩
  | .hbm, ⟨36, _⟩ => ⟨S_, .f32⟩
  | .hbm, ⟨37, _⟩ => ⟨S128x256, .f32⟩
  | .hbm, ⟨38, _⟩ => ⟨S128x256x1, .f32⟩
  | .hbm, ⟨39, _⟩ => ⟨S128x256x512, .f32⟩
  | .hbm, ⟨40, _⟩ => ⟨S128x256x512, .f32⟩
  | .hbm, ⟨41, _⟩ => ⟨S128x256x128, .f32⟩
  | .hbm, ⟨42, _⟩ => ⟨S128x128, .f32⟩
  | .hbm, ⟨43, _⟩ => ⟨S128x128, .f32⟩
  | .hbm, ⟨44, _⟩ => ⟨S128x1x128, .f32⟩
  | .hbm, ⟨45, _⟩ => ⟨S128x128, .f32⟩
  | .hbm, ⟨46, _⟩ => ⟨S128x256x128, .f32⟩
  | .hbm, ⟨47, _⟩ => ⟨S128x256x128, .f32⟩
  | .hbm, ⟨48, _⟩ => ⟨S128x256x128, .f32⟩
  | .hbm, ⟨49, _⟩ => ⟨S1x1x128, .f32⟩
  | .hbm, ⟨50, _⟩ => ⟨S128x256x128, .f32⟩
  | .hbm, ⟨51, _⟩ => ⟨S128x256x128, .f32⟩
  | .hbm, ⟨52, _⟩ => ⟨S_, .f32⟩
  | .hbm, ⟨53, _⟩ => ⟨S128x256x128, .f32⟩
  | .hbm, ⟨54, _⟩ => ⟨S128x256x128, .f32⟩
  | .local _ .vmem, ⟨0, _⟩ => ⟨S128x512, .f32⟩
  | .local _ .vmem, ⟨1, _⟩ => ⟨S128x512, .f32⟩
  | _, _ => ⟨S128x256x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_call0_cst : Ref sig .tc := ⟨.hbm, 52, rfl⟩
abbrev main_call0_v0 : Ref sig .tc := ⟨.hbm, 53, rfl⟩
abbrev main_v41 : Ref sig .tc := ⟨.hbm, 54, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Block.lean ====
/- What the kernel's body leaves in its two output blocks, user by user. A block holds eight users; the body computes
   them one after another by the same operations, so one function of a user's own data gives every user's result. -/
module

public import proofs.«01_k».proof.Proof.Gen.KernelIdeal.Frame
public import Idealize.ShloMosaic.Lib.Pipeline.ValueKit
public import Idealize.ShloMosaic.Lib.Pointwise

@[expose] public section

noncomputable section

namespace Cert.KernelIdeal.Block

open Cert.KernelIdeal Cert.KernelIdeal.Gen Idealize.ShloMosaic

variable {F : FTy → Type} [FloatOps F]

/-- User `u`'s part of a block of eight users. -/
def user {n k : Nat} (u : Fin 8) (x : Vec F ⟨3, ![8, n, k]⟩ .f32) : Vec F ⟨3, ![1, n, k]⟩ .f32 :=
  fun j => x (ix3 u (j 1) (j 2))

/-- A load of one user's rows is that user's part of the block. -/
theorem ld_user {n k : Nat} (u : Fin 8) (x : Vec F ⟨3, ![8, n, k]⟩ .f32)
    (inb : ∀ a, (![u.val, 0, 0] : Fin 3 → Nat) a + (![1, n, k] : Fin 3 → Nat) a ≤ (![8, n, k] : Fin 3 → Nat) a) :
    View.ld x (Rect.unit (s := ⟨3, ![8, n, k]⟩) ![u.val, 0, 0] ![1, n, k] inb) = user u x := by
  funext j
  refine congrArg x (funext fun a => Fin.ext ?_)
  match a with
  | ⟨0, _⟩ =>
    have h : (j 0).val < 1 := (j 0).isLt
    show u.val + 1 * (j 0).val = u.val
    omega
  | ⟨1, _⟩ => show 0 + 1 * (j 1).val = (j 1).val; omega
  | ⟨2, _⟩ => show 0 + 1 * (j 2).val = (j 2).val; omega

/-- The place in a block of entry `j` of user `u`'s part. -/
theorem emb_user {n k : Nat} (u : Fin 8) (j : (⟨3, ![1, n, k]⟩ : Shape).Idx)
    (inb : ∀ a, (![u.val, 0, 0] : Fin 3 → Nat) a + (![1, n, k] : Fin 3 → Nat) a ≤ (![8, n, k] : Fin 3 → Nat) a) :
    (Rect.unit (s := ⟨3, ![8, n, k]⟩) ![u.val, 0, 0] ![1, n, k] inb).emb j = ix3 u (j 1) (j 2) := by
  refine funext fun a => Fin.ext ?_
  match a with
  | ⟨0, _⟩ =>
    have h : (j 0).val < 1 := (j 0).isLt
    show u.val + 1 * (j 0).val = u.val
    omega
  | ⟨1, _⟩ => show 0 + 1 * (j 1).val = (j 1).val; omega
  | ⟨2, _⟩ => show 0 + 1 * (j 2).val = (j 2).val; omega

/-- An index of one user's part by its last two coordinates. -/
theorem eq_one {n k : Nat} (j : (⟨3, ![1, n, k]⟩ : Shape).Idx) : j = ix3 0 (j 1) (j 2) := by
  refine funext fun a => Fin.ext ?_
  match a with
  | ⟨0, _⟩ =>
    have h : (j 0).val < 1 := (j 0).isLt
    show (j 0).val = 0
    omega
  | ⟨1, _⟩ => rfl
  | ⟨2, _⟩ => rfl

/-- One user's attention weights, from the two halves of the score vector, the score bias, and the user's targets,
    items and mask. -/
def attn (w1 w2 : Vec F S1x128 .f32) (b : Vec F S1x1 .f32) (t : Vec F S1x256x128 .f32) (k : Vec F S1x512x128 .f32)
    (q : Vec F S1x1x512 .f32) : FVec F S1x256x512 .f32 :=
  k0_pay10 w1 w2 b t k q

/-- One user's context vectors, from the same data, the user's own vector, the two halves of the output matrix and the
    output bias. -/
def context (w1 w2 : Vec F S1x128 .f32) (b : Vec F S1x1 .f32) (t : Vec F S1x256x128 .f32) (k : Vec F S1x512x128 .f32)
    (q : Vec F S1x1x512 .f32) (v : Vec F S1x1x128 .f32) (m1 m2 : Vec F S128x128 .f32) (bm : Vec F S1x128 .f32) :
    FVec F S1x256x128 .f32 :=
  k0_pay11 (k0_pay8 w1 w2 b t k q) (k0_pay9 w1 w2 b t k q) v m1 m2 bm

variable (x0 : Vec F S8x256x128 .f32) (x1 : Vec F S8x512x128 .f32) (x2 : Vec F S8x1x128 .f32) (x3 : Vec F S8x1x512 .f32)
  (x4 : Vec F S1x256 .f32) (x5 : Vec F S1x1 .f32) (x6 : Vec F S256x128 .f32) (x7 : Vec F S1x128 .f32)

/-- The block of attention weights: at user `u`, that user's weights. -/
def attnBlock : Vec F S8x256x512 .f32 := fun y =>
  attn (View.ld x4 r0_0) (View.ld x4 r0_1) (View.ld x5 r0_2) (user (y 0) x0) (user (y 0) x1) (user (y 0) x3)
    (ix3 0 (y 1) (y 2))

/-- The block of context vectors: at user `u`, that user's context vectors. -/
def contextBlock : Vec F S8x256x128 .f32 := fun y =>
  context (View.ld x4 r0_0) (View.ld x4 r0_1) (View.ld x5 r0_2) (user (y 0) x0) (user (y 0) x1) (user (y 0) x3)
    (user (y 0) x2) (View.ld x6 r0_8) (View.ld x6 r0_9) (View.ld x7 r0_10) (ix3 0 (y 1) (y 2))

/-- Where user `u`'s weights are stored, the block of attention weights holds what the body computes from the loads of
    that user's rows. -/
theorem attnBlock_emb (u : Fin 8) (i0 i1 i3 i9) (j : S1x256x512.Idx) :
    attn (View.ld x4 r0_0) (View.ld x4 r0_1) (View.ld x5 r0_2)
        (View.ld x0 (Rect.unit (s := S8x256x128) ![u.val, 0, 0] ![1, 256, 128] i0))
        (View.ld x1 (Rect.unit (s := S8x512x128) ![u.val, 0, 0] ![1, 512, 128] i1))
        (View.ld x3 (Rect.unit (s := S8x1x512) ![u.val, 0, 0] ![1, 1, 512] i3)) j
      = attnBlock x0 x1 x3 x4 x5 ((Rect.unit (s := S8x256x512) ![u.val, 0, 0] ![1, 256, 512] i9).emb j) := by
  rw [emb_user, ld_user, ld_user, ld_user]
  exact congrArg _ (eq_one j)

/-- Where user `u`'s context vectors are stored, the block of context vectors holds what the body computes from the loads
    of that user's rows. -/
theorem contextBlock_emb (u : Fin 8) (i0 i1 i2 i3 i8) (j : S1x256x128.Idx) :
    context (View.ld x4 r0_0) (View.ld x4 r0_1) (View.ld x5 r0_2)
        (View.ld x0 (Rect.unit (s := S8x256x128) ![u.val, 0, 0] ![1, 256, 128] i0))
        (View.ld x1 (Rect.unit (s := S8x512x128) ![u.val, 0, 0] ![1, 512, 128] i1))
        (View.ld x3 (Rect.unit (s := S8x1x512) ![u.val, 0, 0] ![1, 1, 512] i3))
        (View.ld x2 (Rect.unit (s := S8x1x128) ![u.val, 0, 0] ![1, 1, 128] i2))
        (View.ld x6 r0_8) (View.ld x6 r0_9) (View.ld x7 r0_10) j
      = contextBlock x0 x1 x2 x3 x4 x5 x6 x7
          ((Rect.unit (s := S8x256x128) ![u.val, 0, 0] ![1, 256, 128] i8).emb j) := by
  rw [emb_user, ld_user, ld_user, ld_user, ld_user]
  exact congrArg _ (eq_one j)

/-- The body leaves the block of attention weights in its second output. -/
theorem out_attn : out0_9 x0 x1 x2 x3 x4 x5 x6 x7 = attnBlock x0 x1 x3 x4 x5 := by
  funext y
  unfold out0_9
  refine View.canon_apply_of_pieces (attnBlock x0 x1 x3 x4 x5) _ ?_ y (cover0_9 _ _ _ _ _ _ _ _ y)
  simp only [List.forall_mem_cons, List.not_mem_nil, false_implies, implies_true, and_true]
  exact ⟨fun j => attnBlock_emb x0 x1 x3 x4 x5 7 _ _ _ _ j, fun j => attnBlock_emb x0 x1 x3 x4 x5 6 _ _ _ _ j,
    fun j => attnBlock_emb x0 x1 x3 x4 x5 5 _ _ _ _ j, fun j => attnBlock_emb x0 x1 x3 x4 x5 4 _ _ _ _ j,
    fun j => attnBlock_emb x0 x1 x3 x4 x5 3 _ _ _ _ j, fun j => attnBlock_emb x0 x1 x3 x4 x5 2 _ _ _ _ j,
    fun j => attnBlock_emb x0 x1 x3 x4 x5 1 _ _ _ _ j, fun j => attnBlock_emb x0 x1 x3 x4 x5 0 _ _ _ _ j⟩

/-- The body leaves the block of context vectors in its first output. -/
theorem out_context : out0_8 x0 x1 x2 x3 x4 x5 x6 x7 = contextBlock x0 x1 x2 x3 x4 x5 x6 x7 := by
  funext y
  unfold out0_8
  refine View.canon_apply_of_pieces (contextBlock x0 x1 x2 x3 x4 x5 x6 x7) _ ?_ y (cover0_8 _ _ _ _ _ _ _ _ y)
  simp only [List.forall_mem_cons, List.not_mem_nil, false_implies, implies_true, and_true]
  have h := contextBlock_emb x0 x1 x2 x3 x4 x5 x6 x7
  exact ⟨fun j => h 7 _ _ _ _ _ j, fun j => h 6 _ _ _ _ _ j, fun j => h 5 _ _ _ _ _ j, fun j => h 4 _ _ _ _ _ j,
    fun j => h 3 _ _ _ _ _ j, fun j => h 2 _ _ _ _ _ j, fun j => h 1 _ _ _ _ _ j, fun j => h 0 _ _ _ _ _ j⟩

end Cert.KernelIdeal.Block

end
-- ==== Proof.Softmax.lean ====
/- Weighted averages on the extended reals: a softmax whose largest score is subtracted first and whose masked scores
   are −∞, against the same softmax with no subtraction whose masked weights are multiplied by zero. The scores are
   hyperbolic tangents, so they are real numbers whatever they are taken of. -/
module

public import Idealize.ShloMosaic.PureOps.Ideal

@[expose] public section

noncomputable section

namespace Cert.Softmax

open Idealize.ShloMosaic

variable {ι : Type} [Fintype ι]

/-- One where the item takes part, zero where it is masked. -/
def keep (p : Prop) [Decidable p] : EReal := if p then 1 else 0

/-- Zero where the item takes part, −∞ where it is masked. -/
def penalty (p : Prop) [Decidable p] : EReal := if p then 0 else ⊥

/-- The weight of item `j`: the exponential of its score, or zero if the item is masked. -/
def weight (s : ι → EReal) (p : ι → Prop) [DecidablePred p] (j : ι) : EReal :=
  Ideal.exp (Ideal.tanh (s j)) * keep (p j)

/-- The reciprocal of the sum of the weights. -/
def scale (s : ι → EReal) (p : ι → Prop) [DecidablePred p] : EReal := Ideal.div 1 (∑ j, weight s p j)

/-- The score of item `j` with the mask's penalty added. -/
def masked (s : ι → EReal) (p : ι → Prop) [DecidablePred p] (j : ι) : EReal := Ideal.tanh (s j) + penalty (p j)

/-- The largest masked score. -/
def top (s : ι → EReal) (p : ι → Prop) [DecidablePred p] : EReal := Finset.univ.fold max ⊥ (masked s p)

/-- The exponential of item `j`'s masked score less the largest one. -/
def shifted (s : ι → EReal) (p : ι → Prop) [DecidablePred p] (j : ι) : EReal :=
  Ideal.exp (masked s p j - top s p)

/-- The softmax: each shifted exponential over the sum of them all. -/
def softmax (s : ι → EReal) (p : ι → Prop) [DecidablePred p] (j : ι) : EReal :=
  Ideal.div (shifted s p j) (∑ j, shifted s p j)

/-- A hyperbolic tangent is a real number, also at the infinities. -/
theorem tanh_real (x : EReal) : ∃ t : ℝ, Ideal.tanh x = (t : EReal) := by
  induction x with
  | bot => exact ⟨-1, by simp⟩
  | coe r => exact ⟨Real.tanh r, by simp⟩
  | top => exact ⟨1, by simp⟩

/-- A sum of real numbers is the same sum taken in the extended reals. -/
theorem coe_sum (S : Finset ι) (f : ι → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- Multiplication by a real number that is not negative distributes over a sum of extended reals. -/
theorem sum_mul (r : ℝ) (hr : 0 ≤ r) (S : Finset ι) (f : ι → EReal) :
    (∑ j ∈ S, f j) * (r : EReal) = ∑ j ∈ S, f j * (r : EReal) := by
  classical
  induction S using Finset.induction_on with
  | empty => simp
  | insert a S ha ih =>
    rw [Finset.sum_insert ha, Finset.sum_insert ha, ← ih]
    exact EReal.right_distrib_of_nonneg_of_ne_top (by exact_mod_cast hr) (EReal.coe_ne_top r) _ _

section

variable (s : ι → EReal) (p : ι → Prop) [DecidablePred p]

/-- The real number that item `j`'s weight is. -/
def w (t : ι → ℝ) (j : ι) : ℝ := if p j then Real.exp (t j) else 0

theorem weight_eq (t : ι → ℝ) (ht : ∀ j, Ideal.tanh (s j) = (t j : EReal)) (j : ι) :
    weight s p j = (w p t j : EReal) := by
  unfold weight keep w
  rw [ht, Ideal.exp_coe]
  split <;> simp

/-- With at least one item unmasked, the largest masked score is a real number. -/
theorem top_real (h : ∃ j, p j) : ∃ M : ℝ, top s p = (M : EReal) := by
  choose t ht using fun j => tanh_real (s j)
  have hsup : top s p = Finset.univ.sup (masked s p) := rfl
  obtain ⟨j, hj⟩ := h
  have hlow : (t j : EReal) ≤ top s p := by
    rw [hsup]
    refine le_trans (le_of_eq ?_) (Finset.le_sup (Finset.mem_univ j))
    simp [masked, penalty, hj, ht]
  have hhigh : top s p < ⊤ := by
    rw [hsup, Finset.sup_lt_iff (by exact bot_lt_top)]
    intro k _
    unfold masked penalty
    rw [ht]
    split
    · simpa using EReal.coe_lt_top (t k)
    · simp
  refine ⟨(top s p).toReal, (EReal.coe_toReal hhigh.ne ?_).symm⟩
  exact fun hb => absurd (hb ▸ hlow) (by simp)

theorem shifted_eq (t : ι → ℝ) (ht : ∀ j, Ideal.tanh (s j) = (t j : EReal)) (M : ℝ) (hM : top s p = (M : EReal))
    (j : ι) : shifted s p j = ((w p t j * Real.exp (-M) : ℝ) : EReal) := by
  unfold shifted masked penalty w
  rw [ht, hM]
  split
  · rw [add_zero, ← EReal.coe_sub, Ideal.exp_coe, ← Real.exp_add, sub_eq_add_neg]
  · simp

/-- With at least one item unmasked, the sum of the weights is a positive real number. -/
theorem sum_pos (h : ∃ j, p j) (t : ι → ℝ) : 0 < ∑ j, w p t j := by
  obtain ⟨j, hj⟩ := h
  refine Finset.sum_pos' (fun k _ => ?_) ⟨j, Finset.mem_univ j, ?_⟩
  · unfold w; split
    · exact (Real.exp_pos _).le
    · exact le_rfl
  · unfold w; rw [if_pos hj]; exact Real.exp_pos _

/-- With at least one item unmasked, the reciprocal of the sum of the weights is a real number that is not negative. -/
theorem scale_real (h : ∃ j, p j) : ∃ r : ℝ, 0 ≤ r ∧ scale s p = (r : EReal) := by
  choose t ht using fun j => tanh_real (s j)
  have hS := sum_pos p h t
  refine ⟨1 / ∑ j, w p t j, by positivity, ?_⟩
  unfold scale
  simp only [weight_eq s p t ht]
  rw [← coe_sum, Ideal.div_coe hS.ne', one_mul]

/-- With at least one item unmasked, each weight times the reciprocal of their sum is the softmax. -/
theorem weight_mul_scale (h : ∃ j, p j) (j : ι) : weight s p j * scale s p = softmax s p j := by
  choose t ht using fun j => tanh_real (s j)
  obtain ⟨M, hM⟩ := top_real s p h
  have hS := sum_pos p h t
  have hE := Real.exp_pos (-M)
  unfold scale softmax
  simp only [weight_eq s p t ht, shifted_eq s p t ht M hM]
  rw [← coe_sum, ← coe_sum, Ideal.div_coe hS.ne', ← Finset.sum_mul, Ideal.div_coe (mul_pos hS hE).ne', one_mul,
    ← EReal.coe_mul, ← EReal.coe_mul]
  congr 1
  field_simp

/-- With at least one item unmasked, the weighted sum of `k` scaled afterwards is the sum of `k` under the softmax. -/
theorem pooled_mul_scale (h : ∃ j, p j) (k : ι → EReal) :
    (∑ j, weight s p j * k j) * scale s p = ∑ j, softmax s p j * k j := by
  obtain ⟨r, hr, e⟩ := scale_real s p h
  rw [e, sum_mul r hr]
  refine Finset.sum_congr rfl fun j _ => ?_
  rw [← weight_mul_scale s p h j, e, mul_right_comm]

end

end Cert.Softmax

end
-- ==== Proof.Model.lean ====
module

public import proofs.«01_k».proof.Proof.Softmax
public import Idealize.ShloMosaic.Lib.Pointwise

/-!
# What both programs compute, entry by entry

The arguments are the users' vectors `T`, the items' vectors `K`, the pooled user vector `V`, the mask bits `M`, the
score's weights `wd` and offset `b`, and the last layer's weights `W` and offsets `bm`. The first half of `wd` (and the
upper half of `W`) meets the user's side, the second half the items' side.
-/

@[expose] public section

namespace Cert.Model

open Idealize.ShloMosaic Cert.Softmax

noncomputable section

/-- Place `x` of the first half of 256. -/
def low (x : Fin 128) : Fin 256 := ⟨x.val, by omega⟩

/-- Place `x` of the second half of 256. -/
def high (x : Fin 128) : Fin 256 := ⟨128 + x.val, by omega⟩

variable (T : Vec Ideal ⟨3, ![128, 256, 128]⟩ .f32) (K : Vec Ideal ⟨3, ![128, 512, 128]⟩ .f32)
  (V : Vec Ideal ⟨2, ![128, 128]⟩ .f32) (M : IVec ⟨2, ![128, 512]⟩ 1) (wd : Vec Ideal ⟨1, ![256]⟩ .f32)
  (b : Vec Ideal ⟨1, ![1]⟩ .f32) (W : Vec Ideal ⟨2, ![256, 128]⟩ .f32) (bm : Vec Ideal ⟨1, ![128]⟩ .f32)

/-- The score of item `j` for row `i` of user `u`, before the hyperbolic tangent. -/
def score (u : Fin 128) (i : Fin 256) (j : Fin 512) : EReal :=
  (∑ x : Fin 128, T (ix3 u i x) * wd (ix1 (low x))) +
    (∑ x : Fin 128, K (ix3 u j x) * wd (ix1 (high x))) + b (ix1 0)

/-- Item `j` counts for user `u`: its mask bit is 1. -/
abbrev Counts (u : Fin 128) (j : Fin 512) : Prop := M (ix2 u j) = 1#1

/-- The attention row `i` of user `u` pays to item `j`: the softmax of its scores over the items that count. -/
def attention (u : Fin 128) (i : Fin 256) (j : Fin 512) : EReal :=
  softmax (score T K wd b u i) (Counts M u) j

/-- Entry `j` of the context vector of row `i` of user `u`: one layer over the user's vector and the items' vectors
averaged by attention. -/
def context (u : Fin 128) (i : Fin 256) (j : Fin 128) : EReal :=
  max ((∑ x : Fin 128, V (ix2 u x) * W (ix2 (low x) j)) +
    (∑ x : Fin 128, (∑ l : Fin 512, attention T K M wd b u i l * K (ix3 u l x)) * W (ix2 (high x) j)) +
    bm (ix1 j)) 0

end

end Cert.Model
-- ==== Proof.BlockValue.lean ====
module

public import proofs.«01_k».proof.Proof.Block
public import proofs.«01_k».proof.Proof.Model

/-!
# What the kernel computes for one user

The kernel's two results for one user, at the extended reals, are the attention and the context of the model whenever
the loaded blocks hold that user's part of the arguments and at least one item of the user counts.
-/

@[expose] public section

set_option maxRecDepth 16384

namespace Cert.KernelIdeal.Block

open Cert.KernelIdeal Cert.KernelIdeal.Gen Cert.Softmax Idealize.ShloMosaic

noncomputable section

variable (w1 w2 : Vec Ideal S1x128 .f32) (b : Vec Ideal S1x1 .f32) (t : Vec Ideal S1x256x128 .f32)
  (k : Vec Ideal S1x512x128 .f32) (q : Vec Ideal S1x1x512 .f32) (v : Vec Ideal S1x1x128 .f32)
  (m1 m2 : Vec Ideal S128x128 .f32) (bm : Vec Ideal S1x128 .f32)

/-- The score as the kernel adds it up: the row's part, then the item's part with the offset. -/
def kernelScore (i : Fin 256) (j : Fin 512) : EReal :=
  (∑ x : Fin 128, t (ix3 0 i x) * w1 (ix2 0 x)) + ((∑ x : Fin 128, w2 (ix2 0 x) * k (ix3 0 j x)) + b (ix2 0 0))

/-- The attention block at an entry: the exponential of the squashed score times the mask, times one over its sum. -/
theorem attn_apply (i : Fin 256) (j : Fin 512) :
    attn w1 w2 b t k q (ix3 0 i j) =
      Ideal.exp (Ideal.tanh (kernelScore w1 w2 b t k i j)) * q (ix3 0 0 j) *
        Ideal.div 1 (∑ l, Ideal.exp (Ideal.tanh (kernelScore w1 w2 b t k i l)) * q (ix3 0 0 l)) := by
  unfold attn kernelScore
  unfold_payloads
  pointwise []

/-- The context block at an entry: one layer over the pooled items, scaled after pooling, and the user's vector. -/
theorem context_apply (i : Fin 256) (j : Fin 128) :
    context w1 w2 b t k q v m1 m2 bm (ix3 0 i j) =
      max ((∑ x : Fin 128, (∑ l : Fin 512, Ideal.exp (Ideal.tanh (kernelScore w1 w2 b t k i l)) * q (ix3 0 0 l) *
          k (ix3 0 l x)) *
        Ideal.div 1 (∑ l, Ideal.exp (Ideal.tanh (kernelScore w1 w2 b t k i l)) * q (ix3 0 0 l)) * m2 (ix2 x j)) +
        (∑ x : Fin 128, v (ix3 0 0 x) * m1 (ix2 x j)) + bm (ix2 0 j)) 0 := by
  unfold context kernelScore
  unfold_payloads
  pointwise []

section

variable {w1 w2 b t k q v m1 m2 bm}
variable {T : Vec Ideal ⟨3, ![128, 256, 128]⟩ .f32} {K : Vec Ideal ⟨3, ![128, 512, 128]⟩ .f32}
  {V : Vec Ideal ⟨2, ![128, 128]⟩ .f32} {M : IVec ⟨2, ![128, 512]⟩ 1} {wd : Vec Ideal ⟨1, ![256]⟩ .f32}
  {β : Vec Ideal ⟨1, ![1]⟩ .f32} {W : Vec Ideal ⟨2, ![256, 128]⟩ .f32} {ω : Vec Ideal ⟨1, ![128]⟩ .f32} {u : Fin 128}
  (ht : ∀ i x, t (ix3 0 i x) = T (ix3 u i x)) (hk : ∀ j x, k (ix3 0 j x) = K (ix3 u j x))
  (hw1 : ∀ x : Fin 128, w1 (ix2 0 x) = wd (ix1 (Model.low x)))
  (hw2 : ∀ x : Fin 128, w2 (ix2 0 x) = wd (ix1 (Model.high x))) (hb : b (ix2 0 0) = β (ix1 0))
  (hq : ∀ j, q (ix3 0 0 j) = keep (Model.Counts M u j)) (hv : ∀ x, v (ix3 0 0 x) = V (ix2 u x))
  (hm1 : ∀ x j : Fin 128, m1 (ix2 x j) = W (ix2 (Model.low x) j))
  (hm2 : ∀ x j : Fin 128, m2 (ix2 x j) = W (ix2 (Model.high x) j)) (hbm : ∀ j, bm (ix2 0 j) = ω (ix1 j))
  (hp : ∃ j, Model.Counts M u j)

include ht hk hw1 hw2 hb in
/-- The kernel's score is the model's: a sum regrouped, and factors swapped. -/
theorem kernelScore_eq (i : Fin 256) : kernelScore w1 w2 b t k i = Model.score T K wd β u i := by
  funext j
  simp only [kernelScore, Model.score, ht, hk, hw1, hw2, hb, add_assoc]
  exact congrArg₂ _ rfl (congrArg₂ _ (Finset.sum_congr rfl fun x _ => mul_comm _ _) rfl)

include ht hk hw1 hw2 hb hq hp in
/-- One user's attention block is the model's attention. -/
theorem attn_eq (i : Fin 256) (j : Fin 512) : attn w1 w2 b t k q (ix3 0 i j) = Model.attention T K M wd β u i j := by
  rw [attn_apply, kernelScore_eq ht hk hw1 hw2 hb]
  simp only [hq]
  exact weight_mul_scale _ (Model.Counts M u) hp j

include ht hk hw1 hw2 hb hq hp hv hm1 hm2 hbm in
/-- One user's context block is the model's context. -/
theorem context_eq (i : Fin 256) (j : Fin 128) :
    context w1 w2 b t k q v m1 m2 bm (ix3 0 i j) = Model.context T K V M wd β W ω u i j := by
  rw [context_apply, kernelScore_eq ht hk hw1 hw2 hb]
  simp only [hq, hk, hv, hm1, hm2, hbm]
  unfold Model.context
  rw [add_comm (∑ x : Fin 128, V (ix2 u x) * _)]
  refine congrArg₂ _ (congrArg₂ _ (congrArg₂ _ (Finset.sum_congr rfl fun x _ => congrArg₂ _ ?_ rfl) rfl) rfl) rfl
  exact pooled_mul_scale _ (Model.Counts M u) hp fun l => K (ix3 u l x)

end

end

end Cert.KernelIdeal.Block
-- ==== Proof.KernelArray.lean ====
module

public import proofs.«01_k».proof.Proof.BlockValue
public import proofs.«01_k».proof.Proof.Gen.KernelIdeal.Value
public import Idealize.ShloMosaic.Lib.Pipeline.ValueKit

/-!
# What the kernel's output arrays hold

Grid point `t` covers users `8 t` to `8 t + 7`, so each entry of an output array is the model's value at that entry.
-/

@[expose] public section

set_option maxRecDepth 16384

namespace Cert.KernelIdeal.KernelArray

open Cert.KernelIdeal Cert.KernelIdeal.Gen Cert.KernelIdeal.Block Cert.Softmax
open Idealize.ShloMosaic Idealize.ShloMosaic.TcCoe

noncomputable section

variable (m : (ℓ : Loc nD τ sig) → Buf (Elt Ideal) ℓ) (c : Dev nD)

/-- Which block of its array each window holds at grid point `t`. -/
theorem idx : ∀ t : Fin grid0.N,
    win0_0.index t = ![t.val, 0, 0] ∧ win0_1.index t = ![t.val, 0, 0] ∧ win0_2.index t = ![t.val, 0, 0] ∧
    win0_3.index t = ![t.val, 0, 0] ∧ win0_4.index t = ![0, 0] ∧ win0_5.index t = ![0, 0] ∧
    win0_6.index t = ![0, 0] ∧ win0_7.index t = ![0, 0] ∧ win0_8.index t = ![t.val, 0, 0] ∧
    win0_9.index t = ![t.val, 0, 0] := by decide +kernel

/-- The user whose vectors stand at place `a` of grid point `t`'s blocks. -/
def nth (t : Fin cfg0.N) (a : Fin 8) : Fin 128 := ⟨8 * t.val + a.val, by have h : t.val < 16 := t.isLt; omega⟩

/-- The block of the users' vectors. -/
theorem block0 (t : Fin cfg0.N) (a : Fin 8) (i : Fin 256) (x : Fin 128) :
    iblk m c 0 t (ix3 a i x) = m (c.tc.loc main_arg0) (ix3 (nth t a) i x) := by
  unfold nth
  blk_ext [iblk, V, idx t]

/-- The block of the items' vectors. -/
theorem block1 (t : Fin cfg0.N) (a : Fin 8) (j : Fin 512) (x : Fin 128) :
    iblk m c 1 t (ix3 a j x) = m (c.tc.loc main_arg1) (ix3 (nth t a) j x) := by
  unfold nth
  blk_ext [iblk, V, idx t]

/-- The block of the pooled user vectors. -/
theorem block2 (t : Fin cfg0.N) (a : Fin 8) (x : Fin 128) :
    iblk m c 2 t (ix3 a 0 x) = m (c.tc.loc main_arg2) (ix2 (nth t a) x) := by
  unfold nth
  blk_simp [iblk, V, idx t]
  entry_read
  pointwise
  blk_ext [idx t]

/-- The block of the mask bits as numbers. -/
theorem block3 (t : Fin cfg0.N) (a : Fin 8) (j : Fin 512) :
    iblk m c 3 t (ix3 a 0 j) = FloatOps.uitofp (F := Ideal) .f32 (m (c.tc.loc main_arg3) (ix2 (nth t a) j)) := by
  unfold nth
  blk_simp [iblk, V, idx t]
  entry_read
  pointwise
  refine congrArg (FloatOps.uitofp (F := Ideal) .f32) ?_
  blk_ext [idx t]

/-- The block of the score's weights. -/
theorem block4 (t : Fin cfg0.N) (x : Fin 256) : iblk m c 4 t (ix2 0 x) = m (c.tc.loc main_arg4) (ix1 x) := by
  blk_simp [iblk, V, idx t]
  entry_read
  pointwise
  blk_ext [idx t]

/-- The block of the score's offset. -/
theorem block5 (t : Fin cfg0.N) : iblk m c 5 t (ix2 0 0) = m (c.tc.loc main_arg5) (ix1 0) := by
  blk_simp [iblk, V, idx t]
  entry_read
  pointwise
  blk_ext [idx t]

/-- The block of the last layer's weights. -/
theorem block6 (t : Fin cfg0.N) (x : Fin 256) (j : Fin 128) :
    iblk m c 6 t (ix2 x j) = m (c.tc.loc main_arg6) (ix2 x j) := by
  blk_ext [iblk, V, idx t]

/-- The block of the last layer's offsets. -/
theorem block7 (t : Fin cfg0.N) (j : Fin 128) : iblk m c 7 t (ix2 0 j) = m (c.tc.loc main_arg7) (ix1 j) := by
  blk_simp [iblk, V, idx t]
  entry_read
  pointwise
  blk_ext [idx t]

/-- Where entry `y` of the attention block at grid point `t` stands in its array. -/
theorem place9 (t : Fin cfg0.N) (y : Shape.Idx S8x256x512) :
    (win0_9.blk t).view.emb y = ix3 (nth t (y 0)) (y 1) (y 2) := by
  unfold nth
  blk_ext [idx t]

/-- Where entry `y` of the context block at grid point `t` stands in its array. -/
theorem place8 (t : Fin cfg0.N) (y : Shape.Idx S8x256x128) :
    (win0_8.blk t).view.emb y = ix3 (nth t (y 0)) (y 1) (y 2) := by
  unfold nth
  blk_ext [idx t]

/-- A mask bit as a number. -/
theorem uitofp_eq_keep (p : BitVec 1) : FloatOps.uitofp (F := Ideal) .f32 p = keep (p = 1#1) := by
  rcases BitVec.eq_zero_or_eq_one p with rfl | rfl
  · unfold keep; simp [FloatOps.uitofp]
  · unfold keep; simp [FloatOps.uitofp]

/-- The first half of the score's weights, as loaded. -/
theorem load_low (v : Vec Ideal S1x256 .f32) (x : Fin 128) :
    View.ld v r0_0 (ix2 0 x) = v (ix2 0 (Model.low x)) := by
  pointwise [Model.low]

/-- The second half of the score's weights, as loaded. -/
theorem load_high (v : Vec Ideal S1x256 .f32) (x : Fin 128) :
    View.ld v r0_1 (ix2 0 x) = v (ix2 0 (Model.high x)) := by
  pointwise [Model.high]

/-- The score's offset, as loaded. -/
theorem load_offset (v : Vec Ideal S1x1 .f32) : View.ld v r0_2 (ix2 0 0) = v (ix2 0 0) := by
  pointwise

/-- The upper half of the last layer's weights, as loaded. -/
theorem load_upper (v : Vec Ideal S256x128 .f32) (x j : Fin 128) :
    View.ld v r0_8 (ix2 x j) = v (ix2 (Model.low x) j) := by
  pointwise [Model.low]

/-- The lower half of the last layer's weights, as loaded. -/
theorem load_lower (v : Vec Ideal S256x128 .f32) (x j : Fin 128) :
    View.ld v r0_9 (ix2 x j) = v (ix2 (Model.high x) j) := by
  pointwise [Model.high]

/-- The last layer's offsets, as loaded. -/
theorem load_bias (v : Vec Ideal S1x128 .f32) (j : Fin 128) : View.ld v r0_10 (ix2 0 j) = v (ix2 0 j) := by
  pointwise

variable (hp : ∀ u, ∃ j, Model.Counts (m (c.tc.loc main_arg3)) u j)

include hp in
/-- The attention array holds the model's attention. -/
theorem attention_array : (dats m 0 c).arrAt 9 cfg0.N = fun y : Shape.Idx S128x256x512 =>
    Model.attention (m (c.tc.loc main_arg0)) (m (c.tc.loc main_arg1)) (m (c.tc.loc main_arg3)) (m (c.tc.loc main_arg4))
      (m (c.tc.loc main_arg5)) (y 0) (y 1) (y 2) := by
  refine (dats m 0 c).arrAt_eq_of_covers 9 _ (by decide +kernel) fun t hf y => ?_
  blk_simp
  rw [after0_9, out_attn, place9 t y]
  exact attn_eq (fun i x => block0 m c t _ i x) (fun j x => block1 m c t _ j x) (fun x => (load_low _ x).trans (block4 m c t _)) (fun x => (load_high _ x).trans (block4 m c t _))
    ((load_offset _).trans (block5 m c t)) (fun j => (block3 m c t _ j).trans (uitofp_eq_keep _)) (hp _) _ _

include hp in
/-- The context array holds the model's context. -/
theorem context_array : (dats m 0 c).arrAt 8 cfg0.N = fun y : Shape.Idx S128x256x128 =>
    Model.context (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7))
      (y 0) (y 1) (y 2) := by
  refine (dats m 0 c).arrAt_eq_of_covers 8 _ (by decide +kernel) fun t hf y => ?_
  blk_simp
  rw [after0_8, out_context, place8 t y]
  exact context_eq (fun i x => block0 m c t _ i x) (fun j x => block1 m c t _ j x) (fun x => (load_low _ x).trans (block4 m c t _)) (fun x => (load_high _ x).trans (block4 m c t _))
    ((load_offset _).trans (block5 m c t)) (fun j => (block3 m c t _ j).trans (uitofp_eq_keep _)) (fun x => block2 m c t _ x) (fun x j => (load_upper _ x j).trans (block6 m c t _ j))
    (fun x j => (load_lower _ x j).trans (block6 m c t _ j)) (fun j => (load_bias _ j).trans (block7 m c t j)) (hp _) _ _

end

end Cert.KernelIdeal.KernelArray
-- ==== Proof.RefParts.lean ====
module

public import proofs.«01_k».proof.Proof.Gen.ReferenceIdeal.Run
public import proofs.«01_k».proof.Proof.Model

/-!
# The reference's operations, in stages

Each stage of the reference is one function of whole arrays, read here at an entry.
-/

@[expose] public section

set_option maxRecDepth 16384

namespace Cert.ReferenceIdeal.Parts

open Cert.ReferenceIdeal Cert.ReferenceIdeal.Gen Cert.ReferenceIdeal.Value Cert.Softmax
open Idealize.ShloMosaic Idealize.ShloMosaic.TcCoe

noncomputable section

/-- Each row's vector against the weights `w`. -/
def rowPart (T : FVec Ideal S128x256x128 .f32) (w : FVec Ideal S128 .f32) : FVec Ideal S128x256 .f32 :=
  Host.dotGeneral dot_S128x256x128_S128_S128x256_2_0_01_n_n_n none T w

/-- Each item's vector against the weights `w`. -/
def itemPart (K : FVec Ideal S128x512x128 .f32) (w : FVec Ideal S128 .f32) : FVec Ideal S128x512 .f32 :=
  Host.dotGeneral dot_S128x512x128_S128_S128x512_2_0_01_n_n_n none K w

/-- The first half of the score's weights. -/
def rowWeights (wd : FVec Ideal S256 .f32) : FVec Ideal S128 .f32 := extractStridedSlice S128 ![0] wd slices_S256_S128_0

/-- The second half of the score's weights. -/
def itemWeights (wd : FVec Ideal S256 .f32) : FVec Ideal S128 .f32 :=
  extractStridedSlice S128 ![128] wd slices_S256_S128_128

/-- The score's offset as a single number. -/
def offset (b : FVec Ideal S1 .f32) : FVec Ideal S_ .f32 := shapeCast S_ b shapeCasts_S1_S_

/-- The rows' part `p`, the items' part `q` and the offset `b` added up for every row and item. -/
def added (p : FVec Ideal S128x256 .f32) (q : FVec Ideal S128x512 .f32) (b : FVec Ideal S_ .f32) :
    FVec Ideal S128x256x512 .f32 :=
  addf
    (addf
      (broadcastInDim S128x256x512 ![0, 1, 2] bcast_S128x256x1_S128x256x512_0_1_2
        (broadcastInDim S128x256x1 ![0, 1] bcast_S128x256_S128x256x1_0_1 p))
      (broadcastInDim S128x256x512 ![0, 1, 2] bcast_S128x1x512_S128x256x512_0_1_2
        (broadcastInDim S128x1x512 ![0, 2] bcast_S128x512_S128x1x512_0_2 q)))
    (broadcastInDim S128x256x512 ![] bcast_S_S128x256x512 b)

/-- Every score before the hyperbolic tangent. -/
def raw (T : FVec Ideal S128x256x128 .f32) (K : FVec Ideal S128x512x128 .f32) (wd : FVec Ideal S256 .f32)
    (b : FVec Ideal S1 .f32) : FVec Ideal S128x256x512 .f32 :=
  added (rowPart T (rowWeights wd)) (itemPart K (itemWeights wd)) (offset b)

/-- The hyperbolic tangent of the scores `r` plus each item's mask value `q`. -/
def biased (r : FVec Ideal S128x256x512 .f32) (q : FVec Ideal S128x512 .f32) : FVec Ideal S128x256x512 .f32 :=
  addf (Host.tanh r)
    (broadcastInDim S128x256x512 ![0, 1, 2] bcast_S128x1x512_S128x256x512_0_1_2
      (broadcastInDim S128x1x512 ![0, 2] bcast_S128x512_S128x1x512_0_2 q))

/-- The largest entry of each row, started from `z`. -/
def largest (x : FVec Ideal S128x256x512 .f32) (z : FVec Ideal S_ .f32) : FVec Ideal S128x256 .f32 :=
  Host.reduce FloatOps.maximumf x z reducesTo_S128x256x512_S128x256_d2 h_S_

/-- The larger of `z` and each entry. -/
def atLeast (z : FVec Ideal S_ .f32) (y : FVec Ideal S128x256 .f32) : FVec Ideal S128x256 .f32 :=
  maximumf (broadcastInDim S128x256 ![] bcast_S_S128x256 z) y

/-- Each row's top: its largest entry, at least `z`. -/
def rowMax (x : FVec Ideal S128x256x512 .f32) (z : FVec Ideal S_ .f32) : FVec Ideal S128x256 .f32 :=
  atLeast z (largest x z)

/-- The exponential of each entry less its row's `top`. -/
def expo (x : FVec Ideal S128x256x512 .f32) (top : FVec Ideal S128x256 .f32) : FVec Ideal S128x256x512 .f32 :=
  Host.exp (subf x
    (broadcastInDim S128x256x512 ![0, 1, 2] bcast_S128x256x1_S128x256x512_0_1_2
      (broadcastInDim S128x256x1 ![0, 1] bcast_S128x256_S128x256x1_0_1 top)))

/-- Each entry over the sum of its row. -/
def normalized (e : FVec Ideal S128x256x512 .f32) : FVec Ideal S128x256x512 .f32 :=
  Host.divf e
    (broadcastInDim S128x256x512 ![0, 1, 2] bcast_S128x256x1_S128x256x512_0_1_2
      (broadcastInDim S128x256x1 ![0, 1] bcast_S128x256_S128x256x1_0_1
        (Host.reduceAdd e (constant S_ .f32 0x00000000#32) reducesTo_S128x256x512_S128x256_d2 h_S_)))

/-- The last layer, over attention weights `a`. -/
def layer (a : FVec Ideal S128x256x512 .f32) (K : FVec Ideal S128x512x128 .f32) (V : FVec Ideal S128x128 .f32)
    (W : FVec Ideal S256x128 .f32) (bm : FVec Ideal S128 .f32) : FVec Ideal S128x256x128 .f32 :=
  maximumf
    (addf
      (addf
        (broadcastInDim S128x256x128 ![0, 1, 2] bcast_S128x1x128_S128x256x128_0_1_2
          (broadcastInDim S128x1x128 ![0, 2] bcast_S128x128_S128x1x128_0_2
            (Host.dotGeneral dot_S128x128_S128x128_S128x128_1_0_0_1_n_n none V
              (extractStridedSlice S128x128 ![0, 0] W slices_S256x128_S128x128_0_0))))
        (Host.dotGeneral dot_S128x256x128_S128x128_S128x256x128_2_0_01_1_n_n none
          (Host.dotGeneral dot_S128x256x512_S128x512x128_S128x256x128_2_1_1_2_0_0 none a K)
          (extractStridedSlice S128x128 ![128, 0] W slices_S256x128_S128x128_128_0)))
      (broadcastInDim S128x256x128 ![0, 1, 2] bcast_S1x1x128_S128x256x128_0_1_2
        (broadcastInDim S1x1x128 ![2] bcast_S128_S1x1x128_2 bm)))
    (broadcastInDim S128x256x128 ![] bcast_S_S128x256x128 (constant S_ .f32 0x00000000#32))

/-- A row's part of the score. -/
theorem rowPart_apply (T w) (u : Fin 128) (i : Fin 256) :
    rowPart T w (ix2 u i) = ∑ x : Fin 128, T (ix3 u i x) * w (ix1 x) := by
  pointwise [rowPart]

/-- An item's part of the score. -/
theorem itemPart_apply (K w) (u : Fin 128) (j : Fin 512) :
    itemPart K w (ix2 u j) = ∑ x : Fin 128, K (ix3 u j x) * w (ix1 x) := by
  pointwise [itemPart]

/-- A weight of the first half. -/
theorem rowWeights_apply (wd) (x : Fin 128) : rowWeights wd (ix1 x) = wd (ix1 (Model.low x)) := by
  pointwise [rowWeights, Model.low]

/-- A weight of the second half. -/
theorem itemWeights_apply (wd) (x : Fin 128) : itemWeights wd (ix1 x) = wd (ix1 (Model.high x)) := by
  pointwise [itemWeights, Model.high]

/-- The offset. -/
theorem offset_apply (b) : offset b ix0 = b (ix1 0) := by
  pointwise [offset]

/-- The sum of the three parts at an entry. -/
theorem added_apply (p q b) (u : Fin 128) (i : Fin 256) (j : Fin 512) :
    added p q b (ix3 u i j) = p (ix2 u i) + q (ix2 u j) + b ix0 := by
  pointwise [added]

/-- The scores are the model's. -/
theorem raw_apply (T K wd b) (u : Fin 128) (i : Fin 256) (j : Fin 512) :
    raw T K wd b (ix3 u i j) = Model.score T K wd b u i j := by
  unfold raw Model.score
  rw [added_apply, rowPart_apply, itemPart_apply, offset_apply]
  simp only [rowWeights_apply, itemWeights_apply]

/-- A biased score at an entry. -/
theorem biased_apply (r q) (u : Fin 128) (i : Fin 256) (j : Fin 512) :
    biased r q (ix3 u i j) = Ideal.tanh (r (ix3 u i j)) + q (ix2 u j) := by
  pointwise [biased]

/-- A row's largest entry. -/
theorem largest_apply (x z) (u : Fin 128) (i : Fin 256) :
    largest x z (ix2 u i) = Finset.univ.fold max (z (Shape.Idx.first h_S_)) fun j : Fin 512 => x (ix3 u i j) := by
  pointwise [largest]

/-- The larger of two at an entry. -/
theorem atLeast_apply (z y) (u : Fin 128) (i : Fin 256) : atLeast z y (ix2 u i) = max (z ix0) (y (ix2 u i)) := by
  pointwise [atLeast]

/-- An exponential at an entry. -/
theorem expo_apply (x top) (u : Fin 128) (i : Fin 256) (j : Fin 512) :
    expo x top (ix3 u i j) = Ideal.exp (x (ix3 u i j) - top (ix2 u i)) := by
  pointwise [expo]

/-- A normalized entry. -/
theorem normalized_apply (e) (u : Fin 128) (i : Fin 256) (j : Fin 512) :
    normalized e (ix3 u i j) = Ideal.div (e (ix3 u i j)) (∑ l : Fin 512, e (ix3 u i l)) := by
  pointwise [normalized]

/-- The last layer at an entry. -/
theorem layer_apply (a K V W bm) (u : Fin 128) (i : Fin 256) (j : Fin 128) :
    layer a K V W bm (ix3 u i j) =
      max ((∑ x : Fin 128, V (ix2 u x) * W (ix2 (Model.low x) j)) +
        (∑ x : Fin 128, (∑ l : Fin 512, a (ix3 u i l) * K (ix3 u l x)) * W (ix2 (Model.high x) j)) +
        bm (ix1 j)) 0 := by
  pointwise [layer, Model.low, Model.high]

/-- The pattern the reference's maximum starts from denotes minus infinity. -/
theorem ofBits_bot : Ideal.ofBits .f32 0xFF800000#32 = ⊥ := by simp [Ideal.ofBits, Ideal.ieee]

/-- A constant array holds what its pattern denotes. -/
theorem constant_apply (n : BitVec 32) (i : S_.Idx) : constant (F := Ideal) S_ .f32 n i = Ideal.ofBits .f32 n := rfl

/-- The reference's attention from the scores and the mask values. -/
def softmaxed (r : FVec Ideal S128x256x512 .f32) (q : FVec Ideal S128x512 .f32) : FVec Ideal S128x256x512 .f32 :=
  normalized (expo (biased r q) (rowMax (biased r q) (constant S_ .f32 0xFF800000#32)))

/-- When the mask values are 0 for the items that count and minus infinity for the others, the reference's attention
is the softmax over the items that count. -/
theorem softmaxed_apply (r q) (M : IVec S128x512 1) (u : Fin 128) (i : Fin 256) (j : Fin 512)
    (hq : ∀ j, q (ix2 u j) = penalty (Model.Counts M u j)) :
    softmaxed r q (ix3 u i j) = softmax (fun j => r (ix3 u i j)) (Model.Counts M u) j := by
  have hx : (fun j => biased r q (ix3 u i j)) = masked (fun j => r (ix3 u i j)) (Model.Counts M u) :=
    funext fun j => by rw [biased_apply, hq]; rfl
  have hm : rowMax (biased r q) (constant S_ .f32 0xFF800000#32) (ix2 u i) =
      top (fun j => r (ix3 u i j)) (Model.Counts M u) := by
    rw [rowMax, atLeast_apply, largest_apply, constant_apply, constant_apply, ofBits_bot, hx]
    exact max_bot_left _
  have he : ∀ j, expo (biased r q) (rowMax (biased r q) (constant S_ .f32 0xFF800000#32)) (ix3 u i j) =
      shifted (fun j => r (ix3 u i j)) (Model.Counts M u) j := fun j => by
    rw [expo_apply, hm, congrFun hx j]; rfl
  unfold softmaxed
  rw [normalized_apply]
  simp only [he]
  rfl

end

end Cert.ReferenceIdeal.Parts
-- ==== Proof.RefValue.lean ====
module

public import proofs.«01_k».proof.Proof.RefParts
public import Idealize.ShloMosaic.Lib.Pipeline.ValueKit

/-!
# What the reference computes

Its two results are the model's attention and context.
-/

@[expose] public section

set_option maxRecDepth 16384

namespace Cert.ReferenceIdeal.RefValue

open Cert.ReferenceIdeal Cert.ReferenceIdeal.Gen Cert.ReferenceIdeal.Value Cert.ReferenceIdeal.Parts Cert.Softmax
open Idealize.ShloMosaic Idealize.ShloMosaic.TcCoe

noncomputable section

variable (m : (ℓ : Loc nD τ sig) → Buf (Elt Ideal) ℓ) (c : Dev nD)

/-- Both windows of the mask kernel hold their whole array. -/
theorem idx : ∀ t : Fin grid0.N, win0_0.index t = ![0, 0] ∧ win0_1.index t = ![0, 0] := by decide +kernel

/-- The mask value is minus infinity. -/
theorem mask_bot : (Named.named κ "mask" 0xCB189680#32 : Ideal .f32) = ⊥ := rfl

/-- The inverted mask bit times minus infinity is 0 for an item that counts and minus infinity for the others. -/
theorem inverted_mul_bot (p : BitVec 1) :
    (FloatOps.uitofp (F := Ideal) .f32 (~~~p) : EReal) * ⊥ = penalty (p = 1#1) := by
  rcases BitVec.eq_zero_or_eq_one p with rfl | rfl
  · unfold penalty; simp [FloatOps.uitofp]
  · unfold penalty; simp [FloatOps.uitofp]

/-- The mask kernel's operand as the host makes it. -/
theorem operand_made : V m c main_v14 = uitofp (F := Ideal) .f32 (noti (m (c.tc.loc main_arg3))) := by
  show V0 m c (Proc.devRef .tc main_v14) = _
  simp only [V0, hostOps0, List.flatten_cons, List.flatten_nil, List.append_nil, List.cons_append, List.nil_append]
  after_results <;> rfl

/-- The mask kernel's operand, as its block. -/
theorem operand (t : Fin cfg0.N) (y : Shape.Idx S128x512) :
    iblk m c 0 t y = FloatOps.uitofp (F := Ideal) .f32 (~~~(m (c.tc.loc main_arg3) y)) := by
  have h : (win0_0.blk t).view.emb y = y := by blk_ext [idx t]
  have e : iblk m c 0 t y = V m c main_v14 ((win0_0.blk t).view.emb y) := rfl
  rw [e, h, operand_made]
  rfl

/-- The mask values the mask kernel leaves. -/
theorem mask_values : reg_main_v15 m c = fun y : Shape.Idx S128x512 => penalty (m (c.tc.loc main_arg3) y = 1#1) := by
  unfold reg_main_v15
  refine (dats m 0 c).arrAt_eq_of_covers 1 _ (by decide +kernel) fun t hf y => ?_
  blk_simp
  rw [after0_1]
  frame_out
  have h : (win0_1.blk t).view.emb y = y := by blk_ext [idx t]
  rw [h]
  unfold_payloads
  pointwise
  rw [mask_bot]
  refine (congrArg (· * (⊥ : EReal)) (operand m c t y)).trans (inverted_mul_bot _)

/-- The first result in stages. -/
theorem attention_stages : res_main_v29 m c =
    softmaxed (raw (m (c.tc.loc main_arg0)) (m (c.tc.loc main_arg1)) (m (c.tc.loc main_arg4)) (m (c.tc.loc main_arg5)))
      (reg_main_v15 m c) := rfl

/-- The second result in stages. -/
theorem context_stages : res_main_v41 m c =
    layer (res_main_v29 m c) (m (c.tc.loc main_arg1)) (m (c.tc.loc main_arg2)) (m (c.tc.loc main_arg6))
      (m (c.tc.loc main_arg7)) := rfl

/-- The reference's attention is the model's. -/
theorem attention_eq : res_main_v29 m c = fun y : Shape.Idx S128x256x512 =>
    Model.attention (m (c.tc.loc main_arg0)) (m (c.tc.loc main_arg1)) (m (c.tc.loc main_arg3)) (m (c.tc.loc main_arg4))
      (m (c.tc.loc main_arg5)) (y 0) (y 1) (y 2) := by
  rw [attention_stages]
  funext y
  obtain ⟨u, i, j, rfl⟩ : ∃ u i j, y = ix3 u i j := ⟨_, _, _, eq_ix3 y⟩
  rw [softmaxed_apply _ _ (m (c.tc.loc main_arg3)) u i j fun j => by rw [mask_values]]
  simp only [raw_apply]
  rfl

/-- The reference's context is the model's. -/
theorem context_eq : res_main_v41 m c = fun y : Shape.Idx S128x256x128 =>
    Model.context (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7))
      (y 0) (y 1) (y 2) := by
  rw [context_stages, attention_eq]
  funext y
  obtain ⟨u, i, j, rfl⟩ : ∃ u i j, y = ix3 u i j := ⟨_, _, _, eq_ix3 y⟩
  rw [layer_apply]
  rfl

end

end Cert.ReferenceIdeal.RefValue
-- ==== Proof.Precondition.lean ====
module

public import proofs.«01_k».proof.Proof.Gen.Pre_some_item_unmasked
public import proofs.«01_k».proof.Proof.Model
public import Idealize.ShloMosaic.Lib.ReduceAll
public import Idealize.ShloMosaic.Lib.Routing.OpsOrder

/-!
# The precondition, read
-/

@[expose] public section

namespace Cert.Precondition

open Idealize.ShloMosaic Cert.Pre_some_item_unmasked Cert.Pre_some_item_unmasked.Gen

/-- The «or» of each row of mask bits. -/
theorem any_apply (M : IVec S128x512 1) (z : IVec S_ 1) (u : Fin 128) :
    Host.reduce IntOp.ori M z reducesTo_S128x512_S128_d1 h_S_ (ix1 u) =
      Finset.univ.fold IntOp.ori (z (Shape.Idx.first h_S_)) fun j : Fin 512 => M (ix2 u j) := by
  pointwise

/-- When the precondition's bit is 1, every user has an item that counts. -/
theorem exists_counts (T : FVec Ideal S128x256x128 .f32) (K : FVec Ideal S128x512x128 .f32) (V : FVec Ideal S128x128 .f32)
    (M : IVec S128x512 1) (wd : FVec Ideal S256 .f32) (b : FVec Ideal S1 .f32) (W : FVec Ideal S256x128 .f32)
    (bm : FVec Ideal S128 .f32) (h : fn T K V M wd b W bm ix0 = 1#1) (u : Fin 128) :
    ∃ j, Model.Counts M u j := by
  have e := Host.reduce_andi_eq_one _ _ _ _ _ h (ix1 u) (by funext a; exact a.elim0)
  rw [any_apply] at e
  obtain ⟨j, -, hj⟩ := (Idealize.ShloMosaic.Routing.fold_ori _ _).1 e
  exact ⟨j, hj⟩

end Cert.Precondition
-- ==== Proof.Equation.lean ====
module

public import proofs.«01_k».proof.Proof.KernelArray
public import proofs.«01_k».proof.Proof.RefValue
public import proofs.«01_k».proof.Proof.Precondition

/-!
# The kernel's results are the reference's

Launched on the same arguments, with an item that counts for every user, the two programs end with the same two arrays.
-/

@[expose] public section

namespace Cert.Equation

open Idealize.ShloMosaic Idealize.ShloMosaic.TcCoe

noncomputable section

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (c : Dev KernelIdeal.nD)
  (h0 : m' (c.tc.loc ReferenceIdeal.main_arg0) = m (c.tc.loc KernelIdeal.main_arg0))
  (h1 : m' (c.tc.loc ReferenceIdeal.main_arg1) = m (c.tc.loc KernelIdeal.main_arg1))
  (h2 : m' (c.tc.loc ReferenceIdeal.main_arg2) = m (c.tc.loc KernelIdeal.main_arg2))
  (h3 : m' (c.tc.loc ReferenceIdeal.main_arg3) = m (c.tc.loc KernelIdeal.main_arg3))
  (h4 : m' (c.tc.loc ReferenceIdeal.main_arg4) = m (c.tc.loc KernelIdeal.main_arg4))
  (h5 : m' (c.tc.loc ReferenceIdeal.main_arg5) = m (c.tc.loc KernelIdeal.main_arg5))
  (h6 : m' (c.tc.loc ReferenceIdeal.main_arg6) = m (c.tc.loc KernelIdeal.main_arg6))
  (h7 : m' (c.tc.loc ReferenceIdeal.main_arg7) = m (c.tc.loc KernelIdeal.main_arg7))
  (hp : ∀ u, ∃ j, Model.Counts (m (c.tc.loc KernelIdeal.main_arg3)) u j)

include h0 h1 h3 h4 h5 hp in
/-- The attention arrays agree. -/
theorem attention : ReferenceIdeal.Value.res_main_v29 m' c = (KernelIdeal.Gen.dats m 0 c).arrAt 9 KernelIdeal.cfg0.N := by
  rw [ReferenceIdeal.RefValue.attention_eq, h0, h1, h3, h4, h5]
  exact (KernelIdeal.KernelArray.attention_array m c hp).symm

include h0 h1 h2 h3 h4 h5 h6 h7 hp in
/-- The context arrays agree. -/
theorem context : ReferenceIdeal.Value.res_main_v41 m' c = (KernelIdeal.Gen.dats m 0 c).arrAt 8 KernelIdeal.cfg0.N := by
  rw [ReferenceIdeal.RefValue.context_eq, h0, h1, h2, h3, h4, h5, h6, h7]
  exact (KernelIdeal.KernelArray.context_array m c hp).symm

end

end Cert.Equation
-- ==== Proof.lean ====
/-
# The certificate

The kernel and the reference, as printed and idealized, run to their end and leave their arguments unchanged (the frames);
idealizing changes no operation but the named mask value; and on the extended reals the idealized kernel's two results are
the idealized reference's, whenever every user has at least one item whose mask bit is 1.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.Pre_some_item_unmasked
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The idealized kernel and the idealized reference end with equal results. -/
theorem results_equal : algebraic_KernelIdeal_ReferenceIdeal_pre_some_item_unmasked := by
  intro m g m' g' hpre hagree
  refine ⟨fun c => (Cert.KernelIdeal.Gen.dats m 0 c).arrAt 8 Cert.KernelIdeal.cfg0.N,
    fun c => (Cert.KernelIdeal.Gen.dats m 0 c).arrAt 9 Cert.KernelIdeal.cfg0.N,
    Cert.KernelIdeal.Value.run_blocks m g,
    (θ_run _ _ _).mono (fun r h c => ?_) (Cert.ReferenceIdeal.Value.run m' g')⟩
  obtain ⟨h0, h1, h2, h3, h4, h5, h6, h7⟩ := hagree c
  have hp := Cert.Precondition.exists_counts _ _ _ _ _ _ _ _ (congrFun (hpre c) ix0)
  exact ⟨(h c).1.trans (Cert.Equation.context m m' c h0 h1 h2 h3 h4 h5 h6 h7 hp),
    (h c).2.1.trans (Cert.Equation.attention m m' c h0 h1 h3 h4 h5 hp), (h c).2.2⟩

/-- Everything the certificate claims. -/
theorem claim : Cert.Claim :=
  ⟨Cert.Kernel.Gen.facts, Cert.KernelIdeal.Gen.facts, Cert.ReferenceIdeal.Gen.facts, Cert.Reference.Gen.facts,
    Cert.Pre_some_item_unmasked.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    fun m ρ _ => Cert.Reference.Gen.frame m ρ,
    trivial,
    IdealRules.named_const.statement Cert.ReferenceIdeal.κ "mask" .f32 0xCB189680#32 ⊥ rfl,
    results_equal⟩

end Cert.Proof

end
